-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2 : Shape := ⟨2, ![16384, 2]⟩
abbrev S1024x2 : Shape := ⟨2, ![1024, 2]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S1024x2 : S_.BroadcastsInDim S1024x2 (![] : Fin 0 → Fin S1024x2.rank)
  reducesTo_S1024x2_S_d0_1 : S1024x2.ReducesTo [0, 1] S_

variable [Facts]

def fn {F : FTy → Type} [FloatOps F] (main_arg0 : FVec F S16384x2 .f32) (main_arg1 : FVec F S1024x2 .f32) (main_arg2 : FVec F S1024x2 .f32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  main_v8
-- ==== Kernel.lean ====
abbrev S16384x2 : Shape := ⟨2, ![16384, 2]⟩
abbrev S1024x2 : Shape := ⟨2, ![1024, 2]⟩
abbrev S2x1024 : Shape := ⟨2, ![2, 1024]⟩
abbrev S_ : Shape := ⟨0, ![]⟩
abbrev S1024 : Shape := ⟨1, ![1024]⟩
abbrev S1x1024 : Shape := ⟨2, ![1, 1024]⟩
abbrev S1x1 : Shape := ⟨2, ![1, 1]⟩
abbrev S4096x2 : Shape := ⟨2, ![4096, 2]⟩
abbrev S1 : Shape := ⟨1, ![1]⟩
abbrev S4096x1 : Shape := ⟨2, ![4096, 1]⟩
abbrev S4096x1024 : Shape := ⟨2, ![4096, 1024]⟩
abbrev S4096 : Shape := ⟨1, ![4096]⟩
abbrev S1x4096x2 : Shape := ⟨3, ![1, 4096, 2]⟩
abbrev S1x1x1 : Shape := ⟨3, ![1, 1, 1]⟩
abbrev S1x1x1024 : Shape := ⟨3, ![1, 1, 1024]⟩

abbrev nBuf : Space → Nat
  | .hbm => 16
  | .vmem => 10
  | .smem => 1
  | _ => 0

abbrev bufTy : (tb : Table) → Fin (tcTables nBuf tb) → BufTy
  | .hbm, ⟨0, _⟩ => ⟨S16384x2, .f32⟩
  | .hbm, ⟨1, _⟩ => ⟨S1024x2, .f32⟩
  | .hbm, ⟨2, _⟩ => ⟨S1024x2, .f32⟩
  | .hbm, ⟨3, _⟩ => ⟨S2x1024, .f32⟩
  | .hbm, ⟨4, _⟩ => ⟨S1024x2, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S16384x2, .f32⟩
  | .hbm, ⟨12, _⟩ => ⟨S1x1, .f32⟩
  | .hbm, ⟨13, _⟩ => ⟨S1x1, .f32⟩
  | .hbm, ⟨14, _⟩ => ⟨S_, .f32⟩
  | .hbm, ⟨15, _⟩ => ⟨S_, .f32⟩
  | .local _ .vmem, ⟨0, _⟩ => ⟨S4096x2, .f32⟩
  | .local _ .vmem, ⟨1, _⟩ => ⟨S4096x2, .f32⟩
  | .local _ .vmem, ⟨2, _⟩ => ⟨S2x1024, .f32⟩
  | .local _ .vmem, ⟨3, _⟩ => ⟨S1x1024, .f32⟩
  | .local _ .vmem, ⟨4, _⟩ => ⟨S1024x2, .f32⟩
  | .local _ .vmem, ⟨5, _⟩ => ⟨S4096x2, .f32⟩
  | .local _ .vmem, ⟨6, _⟩ => ⟨S4096x2, .f32⟩
  | .local _ .vmem, ⟨7, _⟩ => ⟨S1x1, .f32⟩
  | .local _ .vmem, ⟨8, _⟩ => ⟨S1x1, .f32⟩
  | .local _ .vmem, ⟨9, _⟩ => ⟨S1x1024, .f32⟩
  | .local _ .smem, ⟨0, _⟩ => ⟨S1, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0_0 : Ref sig .tc := ⟨.hbm, 11, rfl⟩
abbrev main_call0_v6_1 : Ref sig .tc := ⟨.hbm, 12, rfl⟩
abbrev main_call0_v6_2 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v49 : BitVec 1 := Scalar.cmpi .eq arg0 c3_i32
  let v50 : BitVec 32 := Scalar.extui v49
  let c0_i32_17 : BitVec 32 := 0#32
  let v51 : BitVec 1 := Scalar.cmpi .ne v50 c0_i32_17
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16384x2 : Shape := ⟨2, ![16384, 2]⟩
abbrev S1024x2 : Shape := ⟨2, ![1024, 2]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S2x1024 : Shape := ⟨2, ![2, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S1024x2, .f32⟩
  | .hbm, ⟨2, _⟩ => ⟨S1024x2, .f32⟩
  | .hbm, ⟨3, _⟩ => ⟨S16384x2, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x2, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S2x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16384x1, .i32⟩
  | .hbm, ⟨26, _⟩ => ⟨S1x1024, .i32⟩
  | .hbm, ⟨27, _⟩ => ⟨S16384x1024, .i32⟩
  | .hbm, ⟨28, _⟩ => ⟨S16384x1024, .i32⟩
  | .hbm, ⟨29, _⟩ => ⟨S16384x1024, .i1⟩
  | .hbm, ⟨30, _⟩ => ⟨S16384x1024, .f32⟩
  | .hbm, ⟨31, _⟩ => ⟨S16384x2, .f32⟩
  | .hbm, ⟨32, _⟩ => ⟨S16384x2, .f32⟩
  | .hbm, ⟨33, _⟩ => ⟨S16384x2, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16384x2, .f32⟩
  | .hbm, ⟨49, _⟩ => ⟨S16384x2, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v14 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Proof.KernelScore.lean ====
/- The kernel body's arithmetic on one block of tokens, operation by operation, read at an index. -/
module

public import proofs.«01_k».proof.Proof.Gen.KernelIdeal.Skeleton
public import Idealize.ShloMosaic.Lib.Pointwise

@[expose] public section

set_option maxRecDepth 16384

noncomputable section

namespace Cert.Proof

open Idealize.ShloMosaic Cert.KernelIdeal Cert.KernelIdeal.Gen

/-- The scores of a block: half the squared length of each code, less the inner product of the token and the code. -/
def scores (x : Vec Ideal S4096x2 .f32) (wt : Vec Ideal S2x1024 .f32) (e : Vec Ideal S1x1024 .f32) : FVec Ideal S4096x1024 .f32 :=
  subf (subf (broadcastTo S4096x1024 (shapeCast S1x1024 e shapeCasts_S1x1024_S1x1024) broadcasts_S1x1024_S4096x1024)
      (mulf (broadcastTo S4096x1024 (extractStridedSlice S4096x1 ![0, 0] x slices_S4096x2_o0_0_S4096x1) broadcasts_S4096x1_S4096x1024)
        (broadcastTo S4096x1024 (extractStridedSlice S1x1024 ![0, 0] (shapeCast S2x1024 wt shapeCasts_S2x1024_S2x1024)
          slices_S2x1024_o0_0_S1x1024) broadcasts_S1x1024_S4096x1024)))
    (mulf (broadcastTo S4096x1024 (extractStridedSlice S4096x1 ![0, 1] x slices_S4096x2_o0_1_S4096x1) broadcasts_S4096x1_S4096x1024)
      (broadcastTo S4096x1024 (extractStridedSlice S1x1024 ![1, 0] (shapeCast S2x1024 wt shapeCasts_S2x1024_S2x1024)
        slices_S2x1024_o1_0_S1x1024) broadcasts_S1x1024_S4096x1024))

/-- The smallest entry of each row. -/
def rowMin (s : FVec Ideal S4096x1024 .f32) : FVec Ideal S4096x1024 .f32 :=
  broadcastTo S4096x1024 (shapeCast S4096x1
    (multiReduction .minimumf [1] S4096 s 0x7F800000#32 reduces_S4096x1024_S4096 (.inl rfl) rfl) shapeCasts_S4096_S4096x1)
    broadcasts_S4096x1_S4096x1024

/-- Each column's number, as a float. -/
def columns : FVec Ideal S4096x1024 .f32 := sitofp .f32 (iota .tc S4096x1024 32 [1] iota_S4096x1024_d1_w32)

/-- The column number where the score is its row's smallest, 1024 elsewhere. -/
def hits (s : FVec Ideal S4096x1024 .f32) : FVec Ideal S4096x1024 .f32 :=
  select (cmpf .oeq s (rowMin s)) columns (broadcast S4096x1024 (Scalar.ofBits .f32 0x44800000#32))

/-- One where a row's entry is the least of the columns `t` names, zero elsewhere. -/
def indicator (t : FVec Ideal S4096x1024 .f32) : FVec Ideal S4096x1024 .f32 :=
  sitofp .f32 (extui 32 (cmpf .oeq columns (rowMin t)) natLt_1_32)

/-- The body's one-hot matrix is the indicator of the hits of the scores. -/
theorem pay7_eq (x : Vec Ideal S4096x2 .f32) (wt : Vec Ideal S2x1024 .f32) (e : Vec Ideal S1x1024 .f32) :
    k0_pay7 x wt e = indicator (hits (scores x wt e)) := rfl

theorem scores_apply (x : Vec Ideal S4096x2 .f32) (wt : Vec Ideal S2x1024 .f32) (e : Vec Ideal S1x1024 .f32)
    (r : Fin 4096) (k : Fin 1024) :
    scores x wt e (ix2 r k) = e (ix2 0 k) - x (ix2 r 0) * wt (ix2 0 k) - x (ix2 r 1) * wt (ix2 1 k) := by
  pointwise [scores]

theorem rowMin_apply (s : FVec Ideal S4096x1024 .f32) (r : Fin 4096) (k : Fin 1024) :
    rowMin s (ix2 r k) = (Finset.univ : Finset (Fin 1024)).fold min (Ideal.ofBits .f32 0x7F800000#32) fun j => s (ix2 r j) := by
  pointwise [rowMin]

/-- A column's number, a word below 1024, read as a signed integer. -/
theorem toInt_column (k : Fin 1024) : (BitVec.ofNat 32 k.val).toInt = ((k.val : ℕ) : ℤ) := by
  have := k.isLt
  rw [BitVec.toInt_eq_toNat_of_lt] <;> simp only [BitVec.toNat_ofNat] <;> rw [Nat.mod_eq_of_lt (by omega)]
  omega

theorem columns_apply (r : Fin 4096) (k : Fin 1024) : columns (ix2 r k) = (((k.val : ℕ) : ℝ) : EReal) := by
  pointwise [columns]
  show (((BitVec.ofNat 32 k.val).toInt : ℝ) : EReal) = _
  rw [toInt_column k]
  norm_cast

theorem hits_apply (s : FVec Ideal S4096x1024 .f32) (r : Fin 4096) (k : Fin 1024) :
    hits s (ix2 r k) = if s (ix2 r k) = rowMin s (ix2 r k) then (((k.val : ℕ) : ℝ) : EReal) else Ideal.ofBits .f32 0x44800000#32 := by
  rw [← columns_apply r k]
  pointwise [hits]

/-- A comparison's bit, widened to a word and converted, is one or zero. -/
theorem sitofp_bit (b : Bool) : FloatOps.sitofp (F := Ideal) .f32 (BitVec.setWidth 32 (BitVec.ofBool b)) = if b then 1 else 0 := by
  show (((BitVec.setWidth 32 (BitVec.ofBool b)).toInt : ℝ) : EReal) = _
  cases b
  · rw [show (BitVec.setWidth 32 (BitVec.ofBool false)).toInt = 0 by decide]; simp
  · rw [show (BitVec.setWidth 32 (BitVec.ofBool true)).toInt = 1 by decide]; simp

theorem widened_compare (a b : FVec Ideal S4096x1024 .f32) (i : S4096x1024.Idx) :
    sitofp (F := Ideal) .f32 (extui 32 (cmpf .oeq a b) natLt_1_32) i = if a i = b i then 1 else 0 := by
  have h : sitofp (F := Ideal) .f32 (extui 32 (cmpf .oeq a b) natLt_1_32) i
      = FloatOps.sitofp .f32 (BitVec.setWidth 32 (BitVec.ofBool (decide (a i = b i)))) := rfl
  rw [h, sitofp_bit]
  simp only [decide_eq_true_eq]

theorem indicator_apply (t : FVec Ideal S4096x1024 .f32) (r : Fin 4096) (k : Fin 1024) :
    indicator t (ix2 r k) = if (((k.val : ℕ) : ℝ) : EReal) = rowMin t (ix2 r k) then 1 else 0 := by
  rw [← columns_apply r k]
  exact widened_compare columns (rowMin t) (ix2 r k)

end Cert.Proof

end
-- ==== Proof.FirstMin.lean ====
/- The least index at which a finite family of real numbers attains its minimum, and the two ways the programs compute it:
   by two minima (of the values, then of the indices that attain the first), and by one fold over pairs (value, index). -/
module

public import Idealize.ShloMosaic.PureOps.Ideal.Laws
public import Idealize.ShloMosaic.PureOps.Reduce
public import Mathlib.Data.EReal.Operations

@[expose] public section

noncomputable section

namespace Cert.Proof

open Idealize.ShloMosaic

variable {n : ℕ} [NeZero n]

/-- The indices at which `f` is smallest. -/
def minimizers (f : Fin n → ℝ) : Finset (Fin n) := Finset.univ.filter fun k => ∀ j, f k ≤ f j

theorem minimizers_nonempty (f : Fin n → ℝ) : (minimizers f).Nonempty := by
  obtain ⟨k, _, hk⟩ := Finset.exists_min_image Finset.univ f Finset.univ_nonempty
  exact ⟨k, Finset.mem_filter.2 ⟨Finset.mem_univ _, fun j => hk j (Finset.mem_univ _)⟩⟩

/-- The least index at which `f` is smallest. -/
def firstMin (f : Fin n → ℝ) : Fin n := (minimizers f).min' (minimizers_nonempty f)

/-- `f` is smallest at `firstMin f`. -/
theorem firstMin_le (f : Fin n → ℝ) (j : Fin n) : f (firstMin f) ≤ f j :=
  (Finset.mem_filter.1 ((minimizers f).min'_mem (minimizers_nonempty f))).2 j

/-- Every index at which `f` is smallest is `firstMin f` or comes after it. -/
theorem firstMin_first (f : Fin n → ℝ) (k : Fin n) (hk : ∀ j, f k ≤ f j) : firstMin f ≤ k :=
  (minimizers f).min'_le k (Finset.mem_filter.2 ⟨Finset.mem_univ _, hk⟩)

/-- An index at which `f` is as small as at `firstMin f` is `firstMin f` or comes after it. -/
theorem firstMin_le_of_eq (f : Fin n → ℝ) (k : Fin n) (hk : f k = f (firstMin f)) : firstMin f ≤ k :=
  firstMin_first f k fun j => hk ▸ firstMin_le f j

/-- Two families that order every pair of indices alike have the same first minimum. -/
theorem firstMin_congr (f g : Fin n → ℝ) (h : ∀ i j, f i ≤ f j ↔ g i ≤ g j) : firstMin f = firstMin g := by
  apply le_antisymm
  · exact firstMin_first f _ fun j => (h _ _).2 (firstMin_le g j)
  · exact firstMin_first g _ fun j => (h _ _).1 (firstMin_le f j)

/-! ## By two minima -/

/-- The minimum of the values, taken from `⊤`, is the value at the first minimum. -/
theorem fold_min_values (f : Fin n → ℝ) :
    (Finset.univ : Finset (Fin n)).fold min (⊤ : EReal) (fun k => ((f k : ℝ) : EReal)) = ((f (firstMin f) : ℝ) : EReal) := by
  show (Finset.univ : Finset (Fin n)).inf (fun k => ((f k : ℝ) : EReal)) = _
  apply le_antisymm
  · exact Finset.inf_le (Finset.mem_univ _)
  · exact Finset.le_inf fun k _ => EReal.coe_le_coe_iff.2 (firstMin_le f k)

/-- The minimum of the indices that attain the minimum, `c` standing for each other index, is the first minimum
    (`c` at least as large as every index). -/
theorem fold_min_indices (f : Fin n → ℝ) (c : EReal) (hc : ((n : ℝ) : EReal) ≤ c) :
    (Finset.univ : Finset (Fin n)).fold min (⊤ : EReal)
      (fun k => if f k = f (firstMin f) then (((k.val : ℕ) : ℝ) : EReal) else c) = ((((firstMin f).val : ℕ) : ℝ) : EReal) := by
  show (Finset.univ : Finset (Fin n)).inf _ = _
  apply le_antisymm
  · refine (Finset.inf_le (Finset.mem_univ (firstMin f))).trans ?_
    rw [if_pos rfl]
  · refine Finset.le_inf fun k _ => ?_
    split
    · next h => exact EReal.coe_le_coe_iff.2 (Nat.cast_le.2 (firstMin_le_of_eq f k h))
    · exact le_trans (EReal.coe_le_coe_iff.2 (Nat.cast_le.2 (firstMin f).isLt.le)) hc

/-! ## By one fold over pairs -/

/-- The order of pairs: by value, then by the index word read as a signed number. -/
def PairLe (p q : EReal × BitVec 32) : Prop := p.1 < q.1 ∨ (p.1 = q.1 ∧ p.2.toInt ≤ q.2.toInt)

theorem PairLe.refl (p : EReal × BitVec 32) : PairLe p p := .inr ⟨rfl, le_rfl⟩

theorem PairLe.trans {p q r : EReal × BitVec 32} (h : PairLe p q) (h' : PairLe q r) : PairLe p r := by
  rcases h with h | ⟨h, i⟩ <;> rcases h' with h' | ⟨h', i'⟩
  · exact .inl (h.trans h')
  · exact .inl (h' ▸ h)
  · exact .inl (h ▸ h')
  · exact .inr ⟨h.trans h', i.trans i'⟩

/-- An operation that gives one of its two pairs, below both, folds a list of pairs to one of them, below all. -/
theorem foldl_least (op : EReal × BitVec 32 → EReal × BitVec 32 → EReal × BitVec 32)
    (hop : ∀ a b, (op a b = a ∨ op a b = b) ∧ PairLe (op a b) a ∧ PairLe (op a b) b) (l : List (EReal × BitVec 32))
    (init : EReal × BitVec 32) :
    l.foldl op init ∈ init :: l ∧ ∀ q ∈ init :: l, PairLe (l.foldl op init) q := by
  induction l generalizing init with
  | nil => exact ⟨by simp, fun q hq => by simp at hq; subst hq; exact PairLe.refl _⟩
  | cons a l ih =>
    obtain ⟨hm, hl⟩ := ih (op init a)
    obtain ⟨ho, hi, ha⟩ := hop init a
    simp only [List.foldl_cons]
    constructor
    · rcases List.mem_cons.1 hm with h | h
      · rw [h]; rcases ho with h | h <;> rw [h] <;> simp
      · simp [h]
    · intro q hq
      have h0 := hl (op init a) (by simp)
      rcases List.mem_cons.1 hq with rfl | hq
      · exact h0.trans hi
      · rcases List.mem_cons.1 hq with rfl | hq
        · exact h0.trans ha
        · exact hl q (by simp [hq])

/-- A list that holds exactly the pairs `(f k, k)` of a real family, folded from a pair of value `⊤`, ends with the index word
    of the first minimum. -/
theorem foldl_firstMin (op : EReal × BitVec 32 → EReal × BitVec 32 → EReal × BitVec 32)
    (hop : ∀ a b, (op a b = a ∨ op a b = b) ∧ PairLe (op a b) a ∧ PairLe (op a b) b) (l : List (EReal × BitVec 32))
    (w : BitVec 32) (f : Fin n → ℝ) (hn : n ≤ 2 ^ 31)
    (hl : ∀ p, p ∈ l ↔ ∃ k : Fin n, p = (((f k : ℝ) : EReal), BitVec.ofNat 32 k.val)) :
    (l.foldl op (⊤, w)).2 = BitVec.ofNat 32 (firstMin f).val := by
  obtain ⟨hm, hle⟩ := foldl_least op hop l (⊤, w)
  generalize l.foldl op (⊤, w) = r at hm hle
  have hk : ∀ k : Fin n, PairLe r (((f k : ℝ) : EReal), BitVec.ofNat 32 k.val) := fun k =>
    hle _ (List.mem_cons_of_mem _ ((hl _).2 ⟨k, rfl⟩))
  have hint : ∀ k : Fin n, (BitVec.ofNat 32 k.val).toInt = (k.val : ℤ) := fun k => by
    have := k.isLt
    rw [BitVec.toInt_eq_toNat_of_lt] <;> simp only [BitVec.toNat_ofNat] <;>
      rw [Nat.mod_eq_of_lt (by omega)]
    omega
  have hr : r ∈ l := by
    rcases List.mem_cons.1 hm with rfl | h
    · exfalso
      rcases hk (firstMin f) with h | ⟨h, -⟩
      · exact absurd h (by simp)
      · exact EReal.coe_ne_top _ h.symm
    · exact h
  obtain ⟨k, rfl⟩ := (hl r).1 hr
  have hmin : ∀ j, f k ≤ f j := fun j => by
    rcases hk j with h | ⟨h, -⟩
    · exact (EReal.coe_lt_coe_iff.1 h).le
    · exact (EReal.coe_eq_coe_iff.1 h).le
  have h1 := firstMin_first f k hmin
  have h2 : k ≤ firstMin f := by
    rcases hk (firstMin f) with h | ⟨-, h⟩
    · exact absurd (EReal.coe_lt_coe_iff.1 h) (not_lt.2 (firstMin_le f k))
    · simp only [hint] at h
      exact_mod_cast h
  rw [le_antisymm h1 h2]

end Cert.Proof

end
-- ==== Proof.Spec.lean ====
/- What both programs compute, over real tokens and codes: the nearest code of each token, how many tokens each code is nearest
   to, the perplexity of those counts, and the mean squared distance from a token to its nearest code. -/
module

public import proofs.«01_k».proof.Proof.FirstMin

@[expose] public section

noncomputable section

namespace Cert.Proof

open Idealize.ShloMosaic

/-- Half the squared distance from a token to code `k`, less half the token's own squared length. -/
def score (W : Fin 1024 → Fin 2 → ℝ) (x : Fin 2 → ℝ) (k : Fin 1024) : ℝ :=
  (W k 0 * W k 0 + W k 1 * W k 1) / 2 - x 0 * W k 0 - x 1 * W k 1

/-- The first of the codes nearest to the token. -/
def nearest (W : Fin 1024 → Fin 2 → ℝ) (x : Fin 2 → ℝ) : Fin 1024 := firstMin (score W x)

/-- How many of the tokens have code `k` as their nearest. -/
def count {n : ℕ} (W : Fin 1024 → Fin 2 → ℝ) (X : Fin n → Fin 2 → ℝ) (k : Fin 1024) : ℝ :=
  ∑ r, if k = nearest W (X r) then 1 else 0

/-- The sum over the tokens of the squared distance to the nearest code. -/
def energy {n : ℕ} (W : Fin 1024 → Fin 2 → ℝ) (X : Fin n → Fin 2 → ℝ) : ℝ :=
  ∑ r, ∑ d, (W (nearest W (X r)) d - X r d) * (W (nearest W (X r)) d - X r d)

/-- The perplexity of shares `p`: the exponential of the entropy, a small constant inside the logarithm. -/
def perplexity (p : Fin 1024 → ℝ) : EReal :=
  Ideal.exp (0 - ∑ k, ((p k : ℝ) : EReal) * Ideal.log (((p k : ℝ) : EReal) + Ideal.ofBits .f32 0x2EDBE6FF#32))

/-- A sum of real numbers is the same sum of extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A truth value as one or zero, real or extended. -/
theorem coe_bit (p : Prop) [Decidable p] : (if p then (1 : EReal) else 0) = (((if p then 1 else 0 : ℝ)) : EReal) := by
  split <;> simp

/-- A sum against an indicator is the term it picks. -/
theorem sum_pick (κ : Fin 1024) (f : Fin 1024 → ℝ) :
    ∑ k, (if k = κ then (1 : EReal) else 0) * ((f k : ℝ) : EReal) = ((f κ : ℝ) : EReal) := by
  rw [Finset.sum_eq_single κ]
  · rw [if_pos rfl, one_mul]
  · intro k _ h; rw [if_neg h, zero_mul]
  · intro h; exact absurd (Finset.mem_univ _) h

theorem ofBits_inf : Ideal.ofBits .f32 0x7F800000#32 = ⊤ := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

theorem ofBits_inv_16384 : Ideal.ofBits .f32 0x38800000#32 = ((1 / 16384 : ℝ) : EReal) := by
  simp [Ideal.ofBits, Ideal.ieee, -EReal.coe_mul]; norm_num

theorem ofBits_32768 : Ideal.ofBits .f32 0x47000000#32 = ((32768 : ℝ) : EReal) := by
  simp [Ideal.ofBits, Ideal.ieee, -EReal.coe_mul]; norm_num

theorem ofBits_inv_32768 : Ideal.ofBits .f32 0x38000000#32 = ((1 / 32768 : ℝ) : EReal) := by
  simp [Ideal.ofBits, Ideal.ieee, -EReal.coe_mul]; norm_num

end Cert.Proof

end
-- ==== Proof.KernelBlock.lean ====
/- What the kernel body computes on one block of real tokens: the nearest code of each, their counts, the block's energy; and
   from the totals, the perplexity and the mean. -/
module

public import proofs.«01_k».proof.Proof.KernelScore
public import proofs.«01_k».proof.Proof.Spec

@[expose] public section

set_option maxRecDepth 16384

noncomputable section

namespace Cert.Proof

open Idealize.ShloMosaic Cert.KernelIdeal Cert.KernelIdeal.Gen

/-- The four blocks that the body reads hold real tokens `X` and real codes `W`. -/
structure Holds (X : Fin 4096 → Fin 2 → ℝ) (W : Fin 1024 → Fin 2 → ℝ) (x : Vec Ideal S4096x2 .f32) (wt : Vec Ideal S2x1024 .f32)
    (e : Vec Ideal S1x1024 .f32) (w : Vec Ideal S1024x2 .f32) : Prop where
  tokens : ∀ r d, x (ix2 r d) = ((X r d : ℝ) : EReal)
  transposed : ∀ d k, wt (ix2 d k) = ((W k d : ℝ) : EReal)
  lengths : ∀ k, e (ix2 0 k) = (((W k 0 * W k 0 + W k 1 * W k 1) / 2 : ℝ) : EReal)
  codes : ∀ k d, w (ix2 k d) = ((W k d : ℝ) : EReal)

variable {X : Fin 4096 → Fin 2 → ℝ} {W : Fin 1024 → Fin 2 → ℝ} {x : Vec Ideal S4096x2 .f32} {wt : Vec Ideal S2x1024 .f32}
  {e : Vec Ideal S1x1024 .f32} {w : Vec Ideal S1024x2 .f32}

/-- The body's scores are the scores. -/
theorem scores_real (h : Holds X W x wt e w) (r : Fin 4096) (k : Fin 1024) :
    scores x wt e (ix2 r k) = ((score W (X r) k : ℝ) : EReal) := by
  rw [scores_apply, h.tokens, h.tokens, h.transposed, h.transposed, h.lengths]
  simp only [score, EReal.coe_sub, EReal.coe_mul]

/-- Each row's smallest score is the nearest code's. -/
theorem rowMin_scores (h : Holds X W x wt e w) (r : Fin 4096) (k : Fin 1024) :
    rowMin (scores x wt e) (ix2 r k) = ((score W (X r) (nearest W (X r)) : ℝ) : EReal) := by
  rw [rowMin_apply, ofBits_inf]
  simp only [scores_real h]
  exact fold_min_values (score W (X r))

/-- The hits are the numbers of the codes whose score is smallest. -/
theorem hits_real (h : Holds X W x wt e w) (r : Fin 4096) (k : Fin 1024) :
    hits (scores x wt e) (ix2 r k)
      = if score W (X r) k = score W (X r) (firstMin (score W (X r))) then (((k.val : ℕ) : ℝ) : EReal) else ((1024 : ℝ) : EReal) := by
  rw [hits_apply, rowMin_scores h, scores_real h, ofBits_1024]
  simp only [EReal.coe_eq_coe_iff, nearest]

/-- The least number among the hits is the nearest code's. -/
theorem rowMin_hits (h : Holds X W x wt e w) (r : Fin 4096) (k : Fin 1024) :
    rowMin (hits (scores x wt e)) (ix2 r k) = ((((nearest W (X r)).val : ℕ) : ℝ) : EReal) := by
  rw [rowMin_apply, ofBits_inf]
  simp only [hits_real h]
  exact fold_min_indices (score W (X r)) _ (by norm_num)

/-- The one-hot matrix has its one in the column of the nearest code. -/
theorem onehot_real (h : Holds X W x wt e w) (r : Fin 4096) (k : Fin 1024) :
    k0_pay7 x wt e (ix2 r k) = if k = nearest W (X r) then 1 else 0 := by
  rw [pay7_eq, indicator_apply, rowMin_hits h]
  simp only [EReal.coe_eq_coe_iff, Nat.cast_inj, Fin.val_inj]

/-- The quantized block: each token's nearest code. -/
theorem quantized_real (h : Holds X W x wt e w) (r : Fin 4096) (d : Fin 2) :
    k0_pay8 x wt e w (ix2 r d) = ((W (nearest W (X r)) d : ℝ) : EReal) := by
  pointwise [k0_pay8]
  simp only [onehot_real h, h.codes]
  exact sum_pick _ fun k => W k d

/-- The block's counts. -/
theorem counts_real (h : Holds X W x wt e w) (k : Fin 1024) :
    k0_pay9 x wt e (ix2 0 k) = ((count W X k : ℝ) : EReal) := by
  pointwise [k0_pay9]
  simp only [onehot_real h, coe_bit]
  exact coe_sum _ _

/-- The block's energy. -/
theorem energy_real (h : Holds X W x wt e w) : k0_pay1 (k0_pay10 x wt e w) = ((energy W X : ℝ) : EReal) := by
  pointwise [k0_pay1, k0_pay10]
  simp only [quantized_real h, h.tokens, ← EReal.coe_sub, ← EReal.coe_mul, coe_sum]
  rfl

/-- From the counts over all tokens, the perplexity. -/
theorem perplexity_real (c : Vec Ideal S1x1024 .f32) (n : Fin 1024 → ℝ) (hc : ∀ k, c (ix2 0 k) = ((n k : ℝ) : EReal)) (a b : Fin 1) :
    k0_pay5 c (ix2 a b) = perplexity fun k => n k / 16384 := by
  pointwise [k0_pay5]
  simp only [hc, ofBits_inv_16384, ← EReal.coe_mul, mul_one_div, Finset.univ_unique, Finset.sum_singleton]
  rfl

/-- From the energy over all tokens, the mean. -/
theorem mean_real (v : Elt Ideal .f32) (y : ℝ) (hv : v = ((y : ℝ) : EReal)) (a b : Fin 1) :
    k0_pay6 v (ix2 a b) = ((y / 32768 : ℝ) : EReal) := by
  pointwise [k0_pay6]
  simp only [hv, ofBits_inv_32768, ← EReal.coe_mul, mul_one_div]

end Cert.Proof

end
-- ==== Proof.KernelOuts.lean ====
/- What the kernel carries from one grid point to the next, and what it leaves after the last: the code counts and the energy
   of the tokens seen so far, then the perplexity and the mean. -/
module

public import proofs.«01_k».proof.Proof.KernelBlock
public import proofs.«01_k».proof.Proof.Gen.KernelIdeal.Frame
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof

open Idealize.ShloMosaic Cert.KernelIdeal Cert.KernelIdeal.Gen

/-- Block `b` of the tokens: 4096 rows from row `4096 * b` on. -/
def part (X : Fin 16384 → Fin 2 → ℝ) (b : ℕ) : Fin 4096 → Fin 2 → ℝ :=
  fun r => X ⟨(4096 * b + r.val) % 16384, Nat.mod_lt _ (by norm_num)⟩

/-- A sum over all tokens is the sum of the four blocks' sums. -/
theorem sum_parts (X : Fin 16384 → Fin 2 → ℝ) (g : (Fin 2 → ℝ) → ℝ) :
    ∑ b ∈ Finset.range 4, ∑ r, g (part X b r) = ∑ r, g (X r) := by
  have h : ∀ b ∈ Finset.range 4, ∑ r, g (part X b r)
      = ∑ r : Fin 4096, (fun n : ℕ => g (X ⟨n % 16384, Nat.mod_lt _ (by norm_num)⟩)) (4096 * b + r.val) := fun b _ => rfl
  rw [Finset.sum_congr rfl h, ← Fin.sum_univ_eq_sum_range
    (fun b => ∑ r : Fin 4096, (fun n : ℕ => g (X ⟨n % 16384, Nat.mod_lt _ (by norm_num)⟩)) (4096 * b + r.val)) 4,
    ← Fintype.sum_prod_type', ← (finProdFinEquiv (m := 4) (n := 4096)).sum_comp fun r => g (X r)]
  refine Finset.sum_congr rfl fun p _ => ?_
  obtain ⟨b, r⟩ := p
  have hb := b.isLt
  have hr := r.isLt
  refine congrArg (fun i => g (X i)) (Fin.ext ?_)
  show (4096 * b.val + r.val) % 16384 = r.val + 4096 * b.val
  omega

/-- The counts of the four blocks add up to the counts. -/
theorem count_parts (W : Fin 1024 → Fin 2 → ℝ) (X : Fin 16384 → Fin 2 → ℝ) (k : Fin 1024) :
    ∑ b ∈ Finset.range 4, count W (part X b) k = count W X k :=
  sum_parts X fun x => if k = nearest W x then 1 else 0

/-- The energies of the four blocks add up to the energy. -/
theorem energy_parts (W : Fin 1024 → Fin 2 → ℝ) (X : Fin 16384 → Fin 2 → ℝ) :
    ∑ b ∈ Finset.range 4, energy W (part X b) = energy W X :=
  sum_parts X fun x => ∑ d, (W (nearest W x) d - x d) * (W (nearest W x) d - x d)

variable {m : (ℓ : Loc nD τ sig) → Buf (Elt Ideal) ℓ} {c : Dev nD} {X : Fin 16384 → Fin 2 → ℝ} {W : Fin 1024 → Fin 2 → ℝ}

/-- At every grid point the body's blocks hold that point's part of the tokens and the codes. -/
def Reads (m : (ℓ : Loc nD τ sig) → Buf (Elt Ideal) ℓ) (c : Dev nD) (X : Fin 16384 → Fin 2 → ℝ) (W : Fin 1024 → Fin 2 → ℝ) : Prop :=
  ∀ t : Fin cfg0.N, Holds (part X t.val) W (iblk m c 0 t) (iblk m c 1 t) (iblk m c 2 t) (iblk m c 3 t)

/-- A later point's counts: what the point before left, and the block's. -/
theorem counts_step (v : FVec Ideal S1x1024 .f32) (u : Vec Ideal S1x1024 .f32) (k : Fin 1024) :
    k0_pay3 v u (ix2 0 k) = u (ix2 0 k) + v (ix2 0 k) := by
  pointwise [k0_pay3]

/-- The first point's counts are the block's. -/
theorem counts_start (v : FVec Ideal S1x1024 .f32) (k : Fin 1024) : k0_pay2 v (ix2 0 k) = v (ix2 0 k) := by
  pointwise [k0_pay2]

/-- A later point's energy: what the point before left, and the block's. -/
theorem energy_step (v : FVec Ideal S1x1x1 .f32) (u : Elt Ideal .f32) : k0_pay4 v u = u + k0_pay1 v := rfl

/-- After point `n` the carried counts are those of the blocks up to `n`. -/
theorem counts_upto (h : Reads m c X W) (k : Fin 1024) : ∀ (n : ℕ) (hn : n < cfg0.N),
    (outsAt0 m c n hn).2.2.2.1 (ix2 0 k) = ((∑ b ∈ Finset.range (n + 1), count W (part X b) k : ℝ) : EReal)
  | 0, hn => by
    rw [outsAt0_A m c ⟨0, hn⟩ (by norm_num) (by norm_num) (by norm_num)]
    frame_out
    rw [counts_start, counts_real (h ⟨0, hn⟩), Finset.sum_range_one]
  | n + 1, hn => by
    have hN : n + 1 < 4 := lt_of_lt_of_eq hn N_0
    by_cases h2 : (n + 1) % 4 = 3
    all_goals
      first
        | rw [outsAt0_C m c ⟨n + 1, hn⟩ (by dsimp only; omega) (by dsimp only; omega) h2]
        | rw [outsAt0_B m c ⟨n + 1, hn⟩ (by dsimp only; omega) (by dsimp only; omega) h2]
      frame_out
      simp only [read_unread_whole]
      rw [counts_step, counts_real (h ⟨n + 1, hn⟩), Finset.sum_range_succ, EReal.coe_add]
      exact congrArg (· + _) (counts_upto h k n (Nat.lt_of_succ_lt hn))

/-- After point `n` the carried energy is that of the blocks up to `n`. -/
theorem energy_upto (h : Reads m c X W) (j : S1.Idx) : ∀ (n : ℕ) (hn : n < cfg0.N),
    (outsAt0 m c n hn).2.2.2.2 j = ((∑ b ∈ Finset.range (n + 1), energy W (part X b) : ℝ) : EReal)
  | 0, hn => by
    rw [outsAt0_A m c ⟨0, hn⟩ (by norm_num) (by norm_num) (by norm_num)]
    frame_out
    rw [energy_real (h ⟨0, hn⟩), Finset.sum_range_one]
  | n + 1, hn => by
    have hN : n + 1 < 4 := lt_of_lt_of_eq hn N_0
    by_cases h2 : (n + 1) % 4 = 3
    all_goals
      first
        | rw [outsAt0_C m c ⟨n + 1, hn⟩ (by dsimp only; omega) (by dsimp only; omega) h2]
        | rw [outsAt0_B m c ⟨n + 1, hn⟩ (by dsimp only; omega) (by dsimp only; omega) h2]
      frame_out
      simp only [read_unread_whole]
      rw [energy_step, energy_real (h ⟨n + 1, hn⟩), Finset.sum_range_succ, EReal.coe_add]
      exact congrArg (· + _) (energy_upto h _ n (Nat.lt_of_succ_lt hn))

/-- What every point leaves in its block of the first output: the nearest codes. -/
theorem quantized_at (h : Reads m c X W) (t : Fin cfg0.N) (r : Fin 4096) (d : Fin 2) :
    (outsAt0 m c t.val t.isLt).1 (ix2 r d) = ((W (nearest W (part X t.val r)) d : ℝ) : EReal) := by
  have hN : t.val < 4 := lt_of_lt_of_eq t.isLt N_0
  by_cases h0 : t.val % 4 = 0
  · rw [outsAt0_A m c t h0 (by omega) (by omega)]
    frame_out
    exact quantized_real (h t) r d
  · by_cases h2 : t.val % 4 = 3
    · rw [outsAt0_C m c t h0 (by omega) h2]
      frame_out
      exact quantized_real (h t) r d
    · rw [outsAt0_B m c t h0 (by omega) h2]
      frame_out
      exact quantized_real (h t) r d

/-- What the last point leaves in the second output: the perplexity of all tokens' code frequencies. -/
theorem perplexity_at (h : Reads m c X W) (t : Fin cfg0.N) (ht : t.val = 3) (a b : Fin 1) :
    (outsAt0 m c t.val t.isLt).2.1 (ix2 a b) = perplexity fun k => count W X k / 16384 := by
  rw [outsAt0_C m c t (by omega) (by omega) (by omega)]
  frame_out
  simp only [read_unread_whole]
  refine perplexity_real _ _ (fun k => ?_) _ _
  rw [counts_step, counts_real (h t), counts_upto h k, ← EReal.coe_add, ← count_parts, ht]
  exact congrArg _ (Finset.sum_range_succ _ 3).symm

/-- What the last point leaves in the third output: the energy of all tokens over the number of their coordinates. -/
theorem mean_at (h : Reads m c X W) (t : Fin cfg0.N) (ht : t.val = 3) (a b : Fin 1) :
    (outsAt0 m c t.val t.isLt).2.2.1 (ix2 a b) = ((energy W X / 32768 : ℝ) : EReal) := by
  rw [outsAt0_C m c t (by omega) (by omega) (by omega)]
  frame_out
  simp only [read_unread_whole]
  refine mean_real _ _ ?_ _ _
  rw [energy_step, energy_real (h t), energy_upto h, ← EReal.coe_add, ← energy_parts, ht]
  exact congrArg _ (Finset.sum_range_succ _ 3).symm

end Cert.Proof
-- ==== Proof.KernelArrays.lean ====
/- What the kernel's three result arrays hold after the run, for real tokens and codes. -/
module

public import proofs.«01_k».proof.Proof.KernelOuts

@[expose] public section

set_option maxRecDepth 16384

noncomputable section

namespace Cert.Proof

open Idealize.ShloMosaic Idealize.ShloMosaic.TcCoe Cert.KernelIdeal Cert.KernelIdeal.Gen

variable {m : (ℓ : Loc nD τ sig) → Buf (Elt Ideal) ℓ} {c : Dev nD} {X : Fin 16384 → Fin 2 → ℝ} {W : Fin 1024 → Fin 2 → ℝ}

/-- The block that each point reads, and the block that it writes. -/
theorem block_numbers : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The kernel's arguments hold real tokens `X` and real codes `W`. -/
structure Given (m : (ℓ : Loc nD τ sig) → Buf (Elt Ideal) ℓ) (c : Dev nD) (X : Fin 16384 → Fin 2 → ℝ) (W : Fin 1024 → Fin 2 → ℝ) : Prop where
  tokens : ∀ r d, m ((c : Thread nD τ).loc main_arg0) (ix2 r d) = ((X r d : ℝ) : EReal)
  codes : ∀ k d, m ((c : Thread nD τ).loc main_arg1) (ix2 k d) = ((W k d : ℝ) : EReal)

/-- The codes that the launch is given, transposed. -/
theorem entry_transposed (m : (ℓ : Loc nD τ sig) → Buf (Elt Ideal) ℓ) (c : Dev nD) :
    V m c main_call0_v0 = transpose S2x1024 [1, 0] (m ((c : Thread nD τ).loc main_arg1)) transposes_S1024x2_S2x1024_1_0 := by
  unfold_abbrev_sides
  simp only [List.flatten_cons, List.flatten_nil, List.cons_append, List.nil_append]
  after_results
  rfl

/-- Half the squared length of each code, as the host computes it. -/
def halfLengths (w : FVec Ideal S1024x2 .f32) : FVec Ideal S1x1024 .f32 :=
  mulf (broadcastInDim S1x1024 ![] bcast_S_S1x1024 (constant S_ .f32 0x3F000000#32))
    (broadcastInDim S1x1024 ![1] bcast_S1024_S1x1024_1
      (Host.reduceAdd (mulf w w) (constant S_ .f32 0x00000000#32) reducesTo_S1024x2_S1024_d1 h_S_))

/-- The half squared lengths that the launch is given. -/
theorem entry_lengths (m : (ℓ : Loc nD τ sig) → Buf (Elt Ideal) ℓ) (c : Dev nD) :
    V m c main_call0_v5 = halfLengths (m ((c : Thread nD τ).loc main_arg1)) := by
  unfold_abbrev_sides
  simp only [List.flatten_cons, List.flatten_nil, List.cons_append, List.nil_append]
  after_results
  rfl

/-- The transposed codes, for real codes. -/
theorem transposed_real (h : Given m c X W) (d : Fin 2) (k : Fin 1024) :
    V m c main_call0_v0 (ix2 d k) = ((W k d : ℝ) : EReal) := by
  rw [entry_transposed]
  pointwise
  exact h.codes k d

/-- The half squared lengths, for real codes. -/
theorem lengths_real (h : Given m c X W) (k : Fin 1024) :
    V m c main_call0_v5 (ix2 0 k) = (((W k 0 * W k 0 + W k 1 * W k 1) / 2 : ℝ) : EReal) := by
  rw [entry_lengths]
  pointwise [halfLengths]
  simp only [h.codes, ofBits_half, Fin.sum_univ_two]
  rw [← EReal.coe_mul, ← EReal.coe_mul, ← EReal.coe_add, ← EReal.coe_mul]
  exact congrArg _ (by ring)

/-- At every grid point the body's blocks hold that point's part of the tokens, and the codes. -/
theorem reads (h : Given m c X W) : Reads m c X W := by
  intro t
  have hN : t.val < 4 := lt_of_lt_of_eq t.isLt N_0
  obtain ⟨e0, e1, e2, e3, -⟩ := block_numbers t
  refine ⟨fun r d => ?_, fun d k => ?_, fun k => ?_, fun k d => ?_⟩
  · show _ = ((X ⟨(4096 * t.val + r.val) % 16384, _⟩ d : ℝ) : EReal)
    rw [← h.tokens]
    have hr := r.isLt
    blk_ext [iblk, V, e0]
  · rw [← transposed_real h]
    blk_ext [iblk, e1]
  · rw [← lengths_real h]
    blk_ext [iblk, e2]
  · rw [← h.codes]
    blk_ext [iblk, V, e3]

/-- The first result array: every token's nearest code. -/
theorem array_quantized (h : Given m c X W) :
    (dats m 0 c).arrAt 4 cfg0.N = fun i : S16384x2.Idx => ((W (nearest W (X (i 0))) (i 1) : ℝ) : EReal) := by
  refine (dats m 0 c).arrAt_eq_of_covers 4 _ (by decide +kernel) fun t hf y => ?_
  have hN : t.val < 4 := lt_of_lt_of_eq t.isLt N_0
  obtain ⟨-, -, -, -, e4⟩ := block_numbers t
  blk_simp
  rw [after0_4]
  have hy := eq_ix2 (n0 := 4096) (n1 := 2) y
  rw [hy]
  generalize hr : (y 0 : Fin 4096) = r
  generalize hd : (y 1 : Fin 2) = d
  have he : (win0_4.blk t).view.emb (ix2 r d) = ix2 (⟨(4096 * t.val + r.val) % 16384, Nat.mod_lt _ (by norm_num)⟩ : Fin 16384) d := by
    have hr' := r.isLt
    blk_ext [e4]
  rw [he]
  exact quantized_at (reads h) t r d

/-- The second result array: the perplexity. -/
theorem array_perplexity (h : Given m c X W) :
    (dats m 0 c).arrAt 5 cfg0.N = fun _ : S1x1.Idx => perplexity fun k => count W X k / 16384 := by
  refine (dats m 0 c).arrAt_eq_of_after_last 5 t0_3 (by decide +kernel) _ fun j => ?_
  blk_simp
  rw [after0_5]
  have hj := eq_ix2 (n0 := 1) (n1 := 1) j
  rw [hj]
  exact perplexity_at (reads h) t0_3 rfl _ _

/-- The third result array: the mean of the squared differences. -/
theorem array_mean (h : Given m c X W) :
    (dats m 0 c).arrAt 6 cfg0.N = fun _ : S1x1.Idx => ((energy W X / 32768 : ℝ) : EReal) := by
  refine (dats m 0 c).arrAt_eq_of_after_last 6 t0_3 (by decide +kernel) _ fun j => ?_
  blk_simp
  rw [after0_6]
  have hj := eq_ix2 (n0 := 1) (n1 := 1) j
  rw [hj]
  exact mean_at (reads h) t0_3 rfl _ _

end Cert.Proof
-- ==== Proof.KernelTail.lean ====
/- What the kernel's program leaves in its second and third results, after the host's last reshapes, and in its third argument. -/
module

public import proofs.«01_k».proof.Proof.KernelArrays

@[expose] public section

set_option maxRecDepth 16384

noncomputable section

namespace Cert.Proof

open Idealize.ShloMosaic Idealize.ShloMosaic.TcCoe Cert.KernelIdeal Cert.KernelIdeal.Gen

variable {m : (ℓ : Loc nD τ sig) → Buf (Elt Ideal) ℓ} {c : Dev nD} {X : Fin 16384 → Fin 2 → ℝ} {W : Fin 1024 → Fin 2 → ℝ}

/-- No two of the launch's windows are of the same array. -/
theorem arrays_distinct : Function.Injective (Pipeline.arrRef (cfgs 0).spec) := by decide

/-- The second result is the perplexity. -/
theorem result_perplexity (h : Given m c X W) :
    Pipeline.afterTail₀ cfgs (dats m) 0 (V0 m) [hostOps1] c main_v0_1 = fun _ : S_.Idx => perplexity fun k => count W X k / 16384 := by
  have e := (Pipeline.withArrays_arr (cfgs 0).spec arrays_distinct c (V0 m c) (fun w => (dats m 0 c).arrAt w (cfgs 0).N) 5).trans (array_perplexity h)
  unfold Pipeline.afterTail₀
  simp only [List.flatten_cons, List.flatten_nil, List.cons_append, List.nil_append]
  after_results
  erw [e]
  rfl

/-- The third result is the mean of the squared differences. -/
theorem result_mean (h : Given m c X W) :
    Pipeline.afterTail₀ cfgs (dats m) 0 (V0 m) [hostOps1] c main_v0_2 = fun _ : S_.Idx => ((energy W X / 32768 : ℝ) : EReal) := by
  have e := (Pipeline.withArrays_arr (cfgs 0).spec arrays_distinct c (V0 m c) (fun w => (dats m 0 c).arrAt w (cfgs 0).N) 6).trans (array_mean h)
  unfold Pipeline.afterTail₀
  simp only [List.flatten_cons, List.flatten_nil, List.cons_append, List.nil_append]
  after_results
  erw [e]
  rfl

/-- The third argument, which no window and no host line writes, is kept. -/
theorem third_kept (m : (ℓ : Loc nD τ sig) → Buf (Elt Ideal) ℓ) (c : Dev nD) :
    Pipeline.afterTail₀ cfgs (dats m) 0 (V0 m) [hostOps1] c main_arg2 = m ((c.tc : Thread nD τ).loc main_arg2) := by
  unfold Pipeline.afterTail₀
  simp only [List.flatten_cons, List.flatten_nil, List.cons_append, List.nil_append]
  after_results
  refine (Pipeline.withArrays_of_ne (cfgs 0).spec c (V0 m c) (fun w => (dats m 0 c).arrAt w (cfgs 0).N) main_arg2 (by decide)).trans ?_
  unfold V0
  rfl

end Cert.Proof
-- ==== Proof.RefNearest.lean ====
/- The reference's distances, its argmin over them, and the one-hot matrix of the codes that the argmin picks. -/
module

public import proofs.«01_k».proof.Proof.Spec
public import proofs.«01_k».proof.Proof.Gen.ReferenceIdeal
public import Idealize.ShloMosaic.Lib.Pointwise

@[expose] public section

set_option maxRecDepth 16384

noncomputable section

namespace Cert.Proof

open Idealize.ShloMosaic Cert.ReferenceIdeal Cert.ReferenceIdeal.Gen

/-- Of two pairs the reducer keeps one that comes no later, by value and then by index. -/
theorem reducer_least (a b : EReal × BitVec 32) :
    (reducer_argmin_f32_i32 (F := Ideal) a b = a ∨ reducer_argmin_f32_i32 (F := Ideal) a b = b)
      ∧ PairLe (reducer_argmin_f32_i32 (F := Ideal) a b) a ∧ PairLe (reducer_argmin_f32_i32 (F := Ideal) a b) b := by
  obtain ⟨u, i⟩ := a
  obtain ⟨v, j⟩ := b
  have hlt : (FloatOps.cmpf (F := Ideal) (φ := .f32) .olt u v) = BitVec.ofBool (decide (u < v)) := rfl
  have hne : (FloatOps.cmpf (F := Ideal) (φ := .f32) .une u u) = 0#1 := by
    show BitVec.ofBool (decide (u ≠ u)) = 0#1
    simp
  have heq : (FloatOps.cmpf (F := Ideal) (φ := .f32) .oeq u v) = BitVec.ofBool (decide (u = v)) := rfl
  have hs : IntOp.cmpi .slt i j = BitVec.ofBool (i.slt j) := rfl
  have key : reducer_argmin_f32_i32 (F := Ideal) (u, i) (v, j)
      = if u < v then (u, i) else if u = v ∧ i.toInt < j.toInt then (v, i) else (v, j) := by
    dsimp only [reducer_argmin_f32_i32]
    rw [hlt, hne, heq, hs, BitVec.slt_eq_decide]
    by_cases h1 : u < v
    · by_cases h2 : u = v <;> by_cases h3 : i.toInt < j.toInt <;> simp [h1, h2, h3, IntOp.ori, IntOp.andi, Scalar.select]
    · by_cases h2 : u = v <;> by_cases h3 : i.toInt < j.toInt <;> simp [h1, h2, h3, IntOp.ori, IntOp.andi, Scalar.select]
  rw [key]
  by_cases h1 : u < v
  · rw [if_pos h1]
    exact ⟨.inl rfl, PairLe.refl _, .inl h1⟩
  · rw [if_neg h1]
    by_cases h2 : u = v ∧ i.toInt < j.toInt
    · rw [if_pos h2]
      obtain ⟨rfl, h3⟩ := h2
      exact ⟨.inl rfl, PairLe.refl _, .inr ⟨rfl, h3.le⟩⟩
    · rw [if_neg h2]
      refine ⟨.inr rfl, ?_, PairLe.refl _⟩
      rcases lt_or_eq_of_le (not_lt.1 h1) with h4 | h4
      · exact .inl h4
      · exact .inr ⟨h4, not_lt.1 fun h5 => h2 ⟨h4.symm, h5⟩⟩

/-- The second components of a family of pairs. -/
def seconds {ι α β : Type} (p : ι → α × β) : ι → β := fun j => (p j).2

theorem seconds_apply {ι α β : Type} (p : ι → α × β) (j : ι) : seconds p j = (p j).2 := rfl

/-- The code numbers that the reference's argmin picks from the distances `D`. -/
def picks (D : FVec Ideal S16384x1024 .f32) : IVec S16384 32 :=
  seconds (Host.argReduce reducer_argmin_f32_i32 D (iotaInDim S16384x1024 32 1) (constant S_ .f32 0x7F800000#32) (constantI S_ 32 0#32)
    reducesTo_S16384x1024_S16384_d1 h_S_)

/-- The pairs that the argmin folds at row `r`: the row's values, each with its column. -/
theorem mem_row (x : S16384x1024.Idx → EReal) (y : S16384x1024.Idx → BitVec 32) (r : Fin 16384) (p : EReal × BitVec 32) :
    p ∈ Host.argReduceFiber x y reducesTo_S16384x1024_S16384_d1 (ix1 r) ↔ ∃ k : Fin 1024, p = (x (ix2 r k), y (ix2 r k)) := by
  rw [Host.argReduceFiber, List.mem_map]
  constructor
  · rintro ⟨n, hn, rfl⟩
    have hd := of_decide_eq_true (List.mem_filter.1 hn).2
    generalize S16384x1024.rowMajor.symm n = i at hd ⊢
    have h0 : (i 0).val = r.val := by
      have := congrArg (fun f => (f 0 : ℕ)) hd
      rw [← Shape.ReducesTo.drop_apply_val_of_eq reducesTo_S16384x1024_S16384_d1 i 0 0]
      exact this
    have hi : i = ix2 r (i 1) := by
      rw [eq_ix2 (n0 := 16384) (n1 := 1024) i]
      congr 1
      exact Fin.ext h0
    obtain ⟨k, hk⟩ : ∃ k : Fin 1024, i = ix2 r k := ⟨i 1, hi⟩
    exact ⟨k, by rw [hk]⟩
  · rintro ⟨k, rfl⟩
    refine ⟨S16384x1024.rowMajor (ix2 r k), List.mem_filter.2 ⟨List.mem_finRange _, decide_eq_true ?_⟩, ?_⟩
    · rw [Equiv.symm_apply_apply]
      funext b
      fin_cases b
      apply Fin.ext
      exact Shape.ReducesTo.drop_apply_val_of_eq reducesTo_S16384x1024_S16384_d1 (ix2 r k) 0 0
    · rw [Equiv.symm_apply_apply]

/-- The column numbers that the argmin carries along. -/
theorem column_apply (r : Fin 16384) (k : Fin 1024) : iotaInDim S16384x1024 32 1 (ix2 r k) = BitVec.ofNat 32 k.val := rfl

/-- The argmin's starting value is infinite. -/
theorem start_value : (constant (F := Ideal) S_ .f32 0x7F800000#32) (Shape.Idx.first h_S_) = (⊤ : EReal) := ofBits_inf

/-- The argmin's fold over the pairs of one row, as a fold over their list. -/
theorem seconds_argReduce {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t)
    (hu : 0 < u.numel) (j : t.Idx) :
    seconds (Host.argReduce f x y ix iy h hu) j
      = ((Host.argReduceFiber x y h j).foldl f (ix (Shape.Idx.first hu), iy (Shape.Idx.first hu))).2 := by
  rw [seconds_apply, Ideal.argReduce_eq_reduce2, Host.reduce2_eq_foldl_fiber]

/-- On real distances the argmin picks, in each row, the first column at which the row is smallest. -/
theorem picks_real (D : FVec Ideal S16384x1024 .f32) (r : Fin 16384) (f : Fin 1024 → ℝ) (hD : ∀ k, D (ix2 r k) = ((f k : ℝ) : EReal)) :
    picks D (ix1 r) = BitVec.ofNat 32 (firstMin f).val := by
  unfold picks
  rw [seconds_argReduce]
  have hL := mem_row D (iotaInDim S16384x1024 32 1) r
  simp only [hD, column_apply] at hL
  generalize Host.argReduceFiber D (iotaInDim S16384x1024 32 1) reducesTo_S16384x1024_S16384_d1 (ix1 r) = L at hL ⊢
  rw [start_value]
  exact foldl_firstMin _ reducer_least L _ f (by norm_num) hL

end Cert.Proof
-- ==== Proof.RefValue.lean ====
/- What the reference computes, on real tokens and codes: the nearest codes, the perplexity of their counts, the mean squared
   distance. -/
module

public import proofs.«01_k».proof.Proof.RefNearest

@[expose] public section

set_option maxRecDepth 16384

noncomputable section

namespace Cert.Proof

open Idealize.ShloMosaic Cert.ReferenceIdeal Cert.ReferenceIdeal.Gen

/-- The reference's squared distances, a row per token and a column per code. -/
def distances (x : FVec Ideal S16384x2 .f32) (w : FVec Ideal S1024x2 .f32) : FVec Ideal S16384x1024 .f32 :=
  subf
    (addf
      (broadcastInDim S16384x1024 ![0, 1] bcast_S16384x1_S16384x1024_0_1 (broadcastInDim S16384x1 ![0] bcast_S16384_S16384x1_0
        (Host.reduceAdd (mulf x x) (constant S_ .f32 0x00000000#32) reducesTo_S16384x2_S16384_d1 h_S_)))
      (broadcastInDim S16384x1024 ![0, 1] bcast_S1x1024_S16384x1024_0_1 (broadcastInDim S1x1024 ![1] bcast_S1024_S1x1024_1
        (Host.reduceAdd (mulf w w) (constant S_ .f32 0x00000000#32) reducesTo_S1024x2_S1024_d1 h_S_))))
    (mulf (broadcastInDim S16384x1024 ![] bcast_S_S16384x1024 (constant S_ .f32 0x40000000#32))
      (Host.dotGeneral dot_S16384x2_S2x1024_S16384x1024_1_0_0_1_n_n none x (transpose S2x1024 [1, 0] w transposes_S1024x2_S2x1024_1_0)))

/-- The reference's one-hot matrix of the code numbers `p`. -/
def encodings (p : IVec S16384 32) : FVec Ideal S16384x1024 .f32 :=
  uitofp .f32 (cmpi .eq
    (broadcastInDim S16384x1024 ![0, 1] bcast_S16384x1_S16384x1024_0_1 (broadcastInDim S16384x1 ![0] bcast_S16384_S16384x1_0 p))
    (broadcastInDim S16384x1024 ![0, 1] bcast_S1x1024_S16384x1024_0_1 (iotaInDim S1x1024 32 1)))

/-- The tokens, moved by the difference to the picked codes. -/
def moved (E : FVec Ideal S16384x1024 .f32) (x : FVec Ideal S16384x2 .f32) (w : FVec Ideal S1024x2 .f32) : FVec Ideal S16384x2 .f32 :=
  addf x (subf (Host.dotGeneral dot_S16384x1024_S1024x2_S16384x2_1_0_0_1_n_n none E w) x)

/-- The share of the tokens that each code is picked for. -/
def shares (E : FVec Ideal S16384x1024 .f32) : FVec Ideal S1024 .f32 :=
  Host.divf (Host.reduceAdd E (constant S_ .f32 0x00000000#32) reducesTo_S16384x1024_S1024_d0 h_S_)
    (broadcastInDim S1024 ![] bcast_S_S1024 (constant S_ .f32 0x46800000#32))

/-- The reference's perplexity of the shares `p`. -/
def spread (p : FVec Ideal S1024 .f32) : FVec Ideal S_ .f32 :=
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

/-- The reference's mean of the squared differences between `q` and the tokens. -/
def meanSquare (q x : FVec Ideal S16384x2 .f32) : FVec Ideal S_ .f32 :=
  Host.divf (Host.reduceAdd (mulf (subf q x) (subf q x)) (constant S_ .f32 0x00000000#32) reducesTo_S16384x2_S_d0_1 h_S_)
    (constant S_ .f32 0x47000000#32)

variable {X : Fin 16384 → Fin 2 → ℝ} {W : Fin 1024 → Fin 2 → ℝ} {x : FVec Ideal S16384x2 .f32} {w : FVec Ideal S1024x2 .f32}

/-- A distance is the squared distance. -/
theorem distances_real (hx : ∀ r d, x (ix2 r d) = ((X r d : ℝ) : EReal)) (hw : ∀ k d, w (ix2 k d) = ((W k d : ℝ) : EReal))
    (r : Fin 16384) (k : Fin 1024) :
    distances x w (ix2 r k) = (((X r 0 * X r 0 + X r 1 * X r 1) + 2 * score W (X r) k : ℝ) : EReal) := by
  pointwise [distances]
  simp only [hx, hw, ofBits_two, Fin.sum_univ_two]
  simp only [← EReal.coe_mul, ← EReal.coe_add, ← EReal.coe_sub]
  refine congrArg _ ?_
  unfold score
  ring

/-- The argmin picks the nearest code. -/
theorem picks_nearest (hx : ∀ r d, x (ix2 r d) = ((X r d : ℝ) : EReal)) (hw : ∀ k d, w (ix2 k d) = ((W k d : ℝ) : EReal))
    (r : Fin 16384) : picks (distances x w) (ix1 r) = BitVec.ofNat 32 (nearest W (X r)).val := by
  rw [picks_real _ r _ (distances_real hx hw r)]
  refine congrArg (fun k : Fin 1024 => BitVec.ofNat 32 k.val) (firstMin_congr _ _ fun i j => ?_)
  constructor <;> intro h <;> linarith

/-- A comparison for equality, converted to a number, is one or zero. -/
theorem converted_compare {s : Shape} (a b : IVec s 32) (i : s.Idx) :
    uitofp (F := Ideal) .f32 (cmpi .eq a b) i = if a i = b i then 1 else 0 := by
  have h : uitofp (F := Ideal) .f32 (cmpi .eq a b) i = (((BitVec.ofBool (a i == b i)).toNat : ℝ) : EReal) := rfl
  rw [h]
  by_cases e : a i = b i <;> simp [e]

/-- Two code numbers written in 32 bits are equal only if they are the same. -/
theorem ofNat_inj (a b : Fin 1024) : BitVec.ofNat 32 a.val = BitVec.ofNat 32 b.val ↔ b = a := by
  constructor
  · intro h
    have h' := congrArg BitVec.toNat h
    rw [BitVec.toNat_ofNat, BitVec.toNat_ofNat] at h'
    have := a.isLt
    have := b.isLt
    exact Fin.ext (by omega)
  · rintro rfl; rfl

/-- The one-hot matrix has its ones at the code numbers. -/
theorem encodings_real (p : IVec S16384 32) (κ : Fin 16384 → Fin 1024) (hp : ∀ r, p (ix1 r) = BitVec.ofNat 32 (κ r).val)
    (r : Fin 16384) (k : Fin 1024) : encodings p (ix2 r k) = if k = κ r then 1 else 0 := by
  unfold encodings
  rw [converted_compare]
  pointwise
  rw [hp]
  exact if_congr (ofNat_inj _ _) rfl rfl

variable {E : FVec Ideal S16384x1024 .f32}

/-- The moved tokens are the nearest codes. -/
theorem moved_real (hE : ∀ r k, E (ix2 r k) = if k = nearest W (X r) then 1 else 0) (hx : ∀ r d, x (ix2 r d) = ((X r d : ℝ) : EReal))
    (hw : ∀ k d, w (ix2 k d) = ((W k d : ℝ) : EReal)) (r : Fin 16384) (d : Fin 2) :
    moved E x w (ix2 r d) = ((W (nearest W (X r)) d : ℝ) : EReal) := by
  pointwise [moved]
  simp only [hE, hx, hw]
  rw [sum_pick (nearest W (X r)) fun k => W k d]
  rw [← EReal.coe_sub, ← EReal.coe_add]
  exact congrArg _ (by ring)

/-- The shares are the counts over the number of tokens. -/
theorem shares_real (hE : ∀ r k, E (ix2 r k) = if k = nearest W (X r) then 1 else 0) (k : Fin 1024) :
    shares E (ix1 k) = ((count W X k / 16384 : ℝ) : EReal) := by
  pointwise [shares]
  simp only [hE, coe_bit, coe_sum, ofBits_16384]
  rw [Ideal.div_coe (by norm_num), ← EReal.coe_mul, mul_one_div]
  rfl

/-- The reference's perplexity is the perplexity. -/
theorem spread_real (p : FVec Ideal S1024 .f32) (q : Fin 1024 → ℝ) (hp : ∀ k, p (ix1 k) = ((q k : ℝ) : EReal)) (j : S_.Idx) :
    spread p j = perplexity q := by
  pointwise [spread]
  simp only [hp]
  rw [perplexity, zero_sub]

/-- The reference's mean square at the nearest codes is the energy over the number of coordinates. -/
theorem meanSquare_real (q : FVec Ideal S16384x2 .f32) (hq : ∀ r d, q (ix2 r d) = ((W (nearest W (X r)) d : ℝ) : EReal))
    (hx : ∀ r d, x (ix2 r d) = ((X r d : ℝ) : EReal)) (j : S_.Idx) : meanSquare q x j = ((energy W X / 32768 : ℝ) : EReal) := by
  pointwise [meanSquare]
  simp only [hq, hx, ← EReal.coe_sub, ← EReal.coe_mul, coe_sum, ofBits_32768]
  rw [Ideal.div_coe (by norm_num), ← EReal.coe_mul, mul_one_div]
  rfl

end Cert.Proof
-- ==== Proof.Finite.lean ====
/- The precondition, read: the tokens and the codes are real numbers. -/
module

public import proofs.«01_k».proof.Proof.KernelArrays
public import proofs.«01_k».proof.Proof.Gen.Pre_finite
public import proofs.«01_k».proof.Defs
public import Idealize.ShloMosaic.Lib.ReduceAll

@[expose] public section

noncomputable section

namespace Cert.Proof

open Idealize.ShloMosaic Idealize.ShloMosaic.TcCoe

/-- A number whose absolute value is below infinity is real. -/
theorem real_of_abs_lt {s : Shape} (a b : FVec Ideal s .f32) (i : s.Idx) (hb : b i = ⊤) (h : cmpf .olt (Host.absf a) b i = 1#1) :
    ∃ y : ℝ, a i = ((y : ℝ) : EReal) := by
  have h' : BitVec.ofBool (decide (max (a i) (-(a i)) < b i)) = 1#1 := h
  have h2 : max (a i) (-(a i)) < ⊤ := by
    rw [hb] at h'
    by_contra hn
    rw [decide_eq_false hn] at h'
    exact absurd h' (by decide)
  generalize a i = z at h2
  induction z using EReal.rec with
  | bot => simp at h2
  | coe y => exact ⟨y, rfl⟩
  | top => simp at h2

/-- The index of a scalar. -/
theorem scalar_index : Subsingleton Cert.Pre_finite.S_.Idx := ⟨fun i j => funext fun a => a.elim0⟩

/-- Where the precondition holds, the kernel's arguments hold real tokens and real codes. -/
theorem given_of_finite (m : (ℓ : Loc Cert.KernelIdeal.nD Cert.KernelIdeal.τ Cert.KernelIdeal.sig) → Buf (Elt Ideal) ℓ)
    (hpre : Cert.Pre_KernelIdeal_finite m) (c : Dev Cert.KernelIdeal.nD) : ∃ X W, Given m c X W := by
  have h := congrFun (hpre c) (Shape.Idx.first Cert.Pre_finite.Gen.h_S_)
  dsimp only [Cert.Pre_finite.fn] at h
  haveI := scalar_index
  obtain ⟨h0, h1⟩ := IntOp.andi_eq_one.1 h
  have hx := fun i => real_of_abs_lt _ _ i ofBits_inf (Host.reduce_andi_all _ _ _ _ _ h0 i)
  have hw := fun i => real_of_abs_lt _ _ i ofBits_inf (Host.reduce_andi_all _ _ _ _ _ h1 i)
  choose X hX using hx
  choose W hW using hw
  exact ⟨fun r d => X (ix2 r d), fun k d => W (ix2 k d), fun r d => hX _, fun k d => hW _⟩

end Cert.Proof
-- ==== Proof.Equation.lean ====
/- The equation: on finite tokens and codes the kernel and the reference leave the same three results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.KernelTail
public import proofs.«01_k».proof.Proof.RefValue
public import proofs.«01_k».proof.Proof.Finite
public import Idealize.ShloMosaic.Lib.Claim

@[expose] public section

set_option maxRecDepth 16384

noncomputable section

namespace Cert.Proof

open Idealize.ShloMosaic Idealize.ShloMosaic.TcCoe Idealize.SL.Sem

section

variable {X : Fin 16384 → Fin 2 → ℝ} {W : Fin 1024 → Fin 2 → ℝ} {x : FVec Ideal Cert.ReferenceIdeal.S16384x2 .f32}
  {w : FVec Ideal Cert.ReferenceIdeal.S1024x2 .f32}

/-- The reference's first result: every token's nearest code. -/
theorem reference_quantized (hx : ∀ r d, x (ix2 r d) = ((X r d : ℝ) : EReal)) (hw : ∀ k d, w (ix2 k d) = ((W k d : ℝ) : EReal)) :
    moved (encodings (picks (distances x w))) x w
      = fun i : Cert.ReferenceIdeal.S16384x2.Idx => ((W (nearest W (X (i 0))) (i 1) : ℝ) : EReal) := by
  funext i
  obtain ⟨r, d, rfl⟩ : ∃ (r : Fin 16384) (d : Fin 2), i = ix2 r d := ⟨i 0, i 1, eq_ix2 (n0 := 16384) (n1 := 2) i⟩
  exact moved_real (encodings_real _ _ (picks_nearest hx hw)) hx hw r d

/-- The reference's second result: the perplexity. -/
theorem reference_perplexity (hx : ∀ r d, x (ix2 r d) = ((X r d : ℝ) : EReal)) (hw : ∀ k d, w (ix2 k d) = ((W k d : ℝ) : EReal)) :
    spread (shares (encodings (picks (distances x w)))) = fun _ : Cert.ReferenceIdeal.S_.Idx => perplexity fun k => count W X k / 16384 := by
  funext j
  exact spread_real _ _ (shares_real (encodings_real _ _ (picks_nearest hx hw))) j

/-- The reference's third result: the mean of the squared differences. -/
theorem reference_mean (hx : ∀ r d, x (ix2 r d) = ((X r d : ℝ) : EReal)) (hw : ∀ k d, w (ix2 k d) = ((W k d : ℝ) : EReal)) :
    meanSquare (moved (encodings (picks (distances x w))) x w) x
      = fun _ : Cert.ReferenceIdeal.S_.Idx => ((energy W X / 32768 : ℝ) : EReal) := by
  funext j
  exact meanSquare_real _ (fun r d => congrFun (reference_quantized hx hw) (ix2 r d)) hx j

end

/-- A fold's second components, taken place by place. -/
theorem seconds_eq {ι α β : Type} (p : ι → α × β) : (fun j => (p j).2) = seconds p := rfl

/-- On finite tokens and codes the kernel and the reference leave the same three results. -/
theorem algebraic : Cert.algebraic_KernelIdeal_ReferenceIdeal_pre_finite := by
  pair_intro
  · run_from Cert.KernelIdeal.Gen.run_main m g
    exact third_kept m c
  · hlo_run
    all_goals simp -implicitDefEqProofs only [StableHlo.TRef.ofBuf_toBuf, StableHlo.TRef.toBuf, StableHlo.TRef.ofBuf, cast_eq, seconds_eq]
    all_goals (obtain ⟨X, W, h⟩ := given_of_finite m hpre c)
    · refine Eq.trans ?_ ((reference_quantized h.tokens h.codes).trans (array_quantized h).symm)
      unfold moved encodings picks distances
      with_reducible rfl
    · refine Eq.trans ?_ ((reference_perplexity h.tokens h.codes).trans (result_perplexity h).symm)
      unfold spread shares encodings picks distances
      with_reducible rfl
    · refine Eq.trans ?_ ((reference_mean h.tokens h.codes).trans (result_mean h).symm)
      unfold meanSquare moved encodings picks distances
      with_reducible rfl

end Cert.Proof

end
-- ==== Proof.lean ====
/- The proof of the claim: the kernel and the reference leave their arguments unchanged and every semaphore at zero, and on finite
   tokens and codes they leave the same three results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Equation

@[expose] public section

set_option maxRecDepth 16384

noncomputable section

namespace Cert.Proof

open Idealize.ShloMosaic Idealize.ShloMosaic.TcCoe Idealize.SL.Sem

/-- From any memory the reference ends, leaving its arguments unchanged and every semaphore at zero. -/
theorem reference_frame : Cert.quiescent_ReferenceIdeal := by
  intro m g _
  hlo_run
  · exact fun _ => ⟨trivial, trivial, trivial⟩
  · exact sem_eq_zero_of_no_sems (sig := Cert.ReferenceIdeal.sig) (by decide) _

/-- The whole claim: the frames of the three programs, the idealized kernel being the kernel's own text, and the equation. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    reference_frame,
    fun m g _ => reference_frame m g trivial,
    trivial,
    algebraic⟩

end Cert.Proof

end
